-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S1x256x2880 : Shape := ⟨3, ![1, 256, 2880]⟩
abbrev S2880x11520 : Shape := ⟨2, ![2880, 11520]⟩
abbrev S11520 : Shape := ⟨1, ![11520]⟩
abbrev S5x2880x8 : Shape := ⟨3, ![5, 2880, 8]⟩
abbrev S5x8x11520 : Shape := ⟨3, ![5, 8, 11520]⟩
abbrev S1x256 : Shape := ⟨2, ![1, 256]⟩
abbrev S_ : Shape := ⟨0, ![]⟩

class Facts : Prop where
  bcast_S_S1x256x2880 : S_.BroadcastsInDim S1x256x2880 (![] : Fin 0 → Fin S1x256x2880.rank)

variable [Facts]

def fn {F : FTy → Type} [FloatOps F] (main_arg0 : FVec F S1x256x2880 .bf16) (main_arg1 : FVec F S2880x11520 .fp8e4m3) (main_arg2 : FVec F S11520 .f32) (main_arg3 : FVec F S5x2880x8 .bf16) (main_arg4 : FVec F S5x8x11520 .bf16) (main_arg5 : IVec S1x256 32) : IVec S1x256x2880 1 :=
  let main_v0 : FVec F S1x256x2880 .bf16 := Host.absf main_arg0
  let main_cst : FVec F S_ .bf16 := constant S_ .bf16 0x7F7F#16
  let main_v1 : FVec F S1x256x2880 .bf16 := broadcastInDim S1x256x2880 ![] bcast_S_S1x256x2880 main_cst
  let main_v2 : IVec S1x256x2880 1 := cmpf .ole main_v0 main_v1
  main_v2
-- ==== Kernel.lean ====
abbrev S1x256x2880 : Shape := ⟨3, ![1, 256, 2880]⟩
abbrev S2880x11520 : Shape := ⟨2, ![2880, 11520]⟩
abbrev S11520 : Shape := ⟨1, ![11520]⟩
abbrev S5x2880x8 : Shape := ⟨3, ![5, 2880, 8]⟩
abbrev S5x8x11520 : Shape := ⟨3, ![5, 8, 11520]⟩
abbrev S1x256 : Shape := ⟨2, ![1, 256]⟩
abbrev S256x2880 : Shape := ⟨2, ![256, 2880]⟩
abbrev S2880x256 : Shape := ⟨2, ![2880, 256]⟩
abbrev S5x8x2880 : Shape := ⟨3, ![5, 8, 2880]⟩
abbrev S40x2880 : Shape := ⟨2, ![40, 2880]⟩
abbrev S40x11520 : Shape := ⟨2, ![40, 11520]⟩
abbrev S1x11520 : Shape := ⟨2, ![1, 11520]⟩
abbrev S256x11520 : Shape := ⟨2, ![256, 11520]⟩
abbrev S2880x1280 : Shape := ⟨2, ![2880, 1280]⟩
abbrev S1x1280 : Shape := ⟨2, ![1, 1280]⟩
abbrev S40x1280 : Shape := ⟨2, ![40, 1280]⟩
abbrev S256x1280 : Shape := ⟨2, ![256, 1280]⟩
abbrev S256x40 : Shape := ⟨2, ![256, 40]⟩
abbrev S256x1 : Shape := ⟨2, ![256, 1]⟩
abbrev S256 : Shape := ⟨1, ![256]⟩
abbrev S256x256 : Shape := ⟨2, ![256, 256]⟩
abbrev S40x256 : Shape := ⟨2, ![40, 256]⟩
abbrev S1x256x11520 : Shape := ⟨3, ![1, 256, 11520]⟩

abbrev nBuf : Space → Nat
  | .hbm => 18
  | .vmem => 16
  | .smem => 0
  | _ => 0

abbrev bufTy : (tb : Table) → Fin (tcTables nBuf tb) → BufTy
  | .hbm, ⟨0, _⟩ => ⟨S1x256x2880, .bf16⟩
  | .hbm, ⟨1, _⟩ => ⟨S2880x11520, .fp8e4m3⟩
  | .hbm, ⟨2, _⟩ => ⟨S11520, .f32⟩
  | .hbm, ⟨3, _⟩ => ⟨S5x2880x8, .bf16⟩
  | .hbm, ⟨4, _⟩ => ⟨S5x8x11520, .bf16⟩
  | .hbm, ⟨5, _⟩ => ⟨S1x256, .i32⟩
  | .hbm, ⟨6, _⟩ => ⟨S256x2880, .bf16⟩
  | .hbm, ⟨7, _⟩ => ⟨S2880x256, .bf16⟩
  | .hbm, ⟨8, _⟩ => ⟨S5x8x2880, .bf16⟩
  | .hbm, ⟨9, _⟩ => ⟨S40x2880, .bf16⟩
  | .hbm, ⟨10, _⟩ => ⟨S40x11520, .bf16⟩
  | .hbm, ⟨11, _⟩ => ⟨S1x11520, .f32⟩
  | .hbm, ⟨12, _⟩ => ⟨S256x11520, .bf16⟩
  | .hbm, ⟨13, _⟩ => ⟨S2880x256, .fp8e4m3⟩
  | .hbm, ⟨14, _⟩ => ⟨S1x256, .f32⟩
  | .hbm, ⟨15, _⟩ => ⟨S1x256x11520, .bf16⟩
  | .hbm, ⟨16, _⟩ => ⟨S256x2880, .fp8e4m3⟩
  | .hbm, ⟨17, _⟩ => ⟨S1x256x2880, .fp8e4m3⟩
  | .local _ .vmem, ⟨0, _⟩ => ⟨S2880x256, .bf16⟩
  | .local _ .vmem, ⟨1, _⟩ => ⟨S2880x1280, .fp8e4m3⟩
  | .local _ .vmem, ⟨2, _⟩ => ⟨S2880x1280, .fp8e4m3⟩
  | .local _ .vmem, ⟨3, _⟩ => ⟨S1x1280, .f32⟩
  | .local _ .vmem, ⟨4, _⟩ => ⟨S1x1280, .f32⟩
  | .local _ .vmem, ⟨5, _⟩ => ⟨S40x2880, .bf16⟩
  | .local _ .vmem, ⟨6, _⟩ => ⟨S40x1280, .bf16⟩
  | .local _ .vmem, ⟨7, _⟩ => ⟨S40x1280, .bf16⟩
  | .local _ .vmem, ⟨8, _⟩ => ⟨S1x256, .i32⟩
  | .local _ .vmem, ⟨9, _⟩ => ⟨S256x1280, .bf16⟩
  | .local _ .vmem, ⟨10, _⟩ => ⟨S256x1280, .bf16⟩
  | .local _ .vmem, ⟨11, _⟩ => ⟨S2880x256, .fp8e4m3⟩
  | .local _ .vmem, ⟨12, _⟩ => ⟨S1x256, .f32⟩
  | .local _ .vmem, ⟨13, _⟩ => ⟨S256x2880, .fp8e4m3⟩
  | .local _ .vmem, ⟨14, _⟩ => ⟨S256x40, .bf16⟩
  | .local _ .vmem, ⟨15, _⟩ => ⟨S256x1, .f32⟩
  | _, _ => ⟨S1x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2880x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S40x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2880x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x256x2880 : Shape := ⟨3, ![1, 256, 2880]⟩
abbrev S2880x11520 : Shape := ⟨2, ![2880, 11520]⟩
abbrev S11520 : Shape := ⟨1, ![11520]⟩
abbrev S5x2880x8 : Shape := ⟨3, ![5, 2880, 8]⟩
abbrev S5x8x11520 : Shape := ⟨3, ![5, 8, 11520]⟩
abbrev S1x256 : Shape := ⟨2, ![1, 256]⟩
abbrev S1x256x11520 : Shape := ⟨3, ![1, 256, 11520]⟩
abbrev S256x2880 : Shape := ⟨2, ![256, 2880]⟩
abbrev S256 : Shape := ⟨1, ![256]⟩
abbrev S256x1 : Shape := ⟨2, ![256, 1]⟩
abbrev S256x11520 : Shape := ⟨2, ![256, 11520]⟩
abbrev S1x11520 : Shape := ⟨2, ![1, 11520]⟩
abbrev S1x2880x8 : Shape := ⟨3, ![1, 2880, 8]⟩
abbrev S2880x8 : Shape := ⟨2, ![2880, 8]⟩
abbrev S256x8 : Shape := ⟨2, ![256, 8]⟩
abbrev S1x8x11520 : Shape := ⟨3, ![1, 8, 11520]⟩
abbrev S8x11520 : Shape := ⟨2, ![8, 11520]⟩

abbrev nBuf : Space → Nat
  | .hbm => 9
  | .vmem => 9
  | .smem => 0
  | _ => 0

abbrev bufTy : (tb : Table) → Fin (tcTables nBuf tb) → BufTy
  | .hbm, ⟨0, _⟩ => ⟨S1x256x2880, .bf16⟩
  | .hbm, ⟨1, _⟩ => ⟨S2880x11520, .fp8e4m3⟩
  | .hbm, ⟨2, _⟩ => ⟨S11520, .f32⟩
  | .hbm, ⟨3, _⟩ => ⟨S5x2880x8, .bf16⟩
  | .hbm, ⟨4, _⟩ => ⟨S5x8x11520, .bf16⟩
  | .hbm, ⟨5, _⟩ => ⟨S1x256, .i32⟩
  | .hbm, ⟨6, _⟩ => ⟨S1x256x11520, .bf16⟩
  | .hbm, ⟨7, _⟩ => ⟨S1x256x2880, .fp8e4m3⟩
  | .hbm, ⟨8, _⟩ => ⟨S1x256, .f32⟩
  | .local _ .vmem, ⟨0, _⟩ => ⟨S1x256x2880, .bf16⟩
  | .local _ .vmem, ⟨1, _⟩ => ⟨S2880x11520, .fp8e4m3⟩
  | .local _ .vmem, ⟨2, _⟩ => ⟨S11520, .f32⟩
  | .local _ .vmem, ⟨3, _⟩ => ⟨S5x2880x8, .bf16⟩
  | .local _ .vmem, ⟨4, _⟩ => ⟨S5x8x11520, .bf16⟩
  | .local _ .vmem, ⟨5, _⟩ => ⟨S1x256, .i32⟩
  | .local _ .vmem, ⟨6, _⟩ => ⟨S1x256x11520, .bf16⟩
  | .local _ .vmem, ⟨7, _⟩ => ⟨S1x256x2880, .fp8e4m3⟩
  | .local _ .vmem, ⟨8, _⟩ => ⟨S1x256, .f32⟩
  | _, _ => ⟨S1x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x256x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x11520 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11520 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x2880x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x8x11520 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256x11520 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256x2880 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
/- What the idealized kernel's body leaves in its buffers, by name: at grid point 0 it quantises the activations, stores the
   codes, their transpose, the scale and the adapter's masked intermediate; at every point it computes one block of columns of
   the result from what point 0 left in the scratch buffers. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values -/

/-- The codes, tokens on columns: what point 0 stores in the codes output, from the activations `x`. -/
def codesT (x : Vec F S2880x256 .bf16) : Vec F S2880x256 .fp8e4m3 :=
  k0_pay8 (k0_pay6 x) (Scalar.ofBits .f32 0xC3E00000#32) (Scalar.ofBits .f32 0x43E00000#32)

/-- The codes, tokens on rows: what point 0 leaves in the first scratch buffer. -/
def codes (x : Vec F S2880x256 .bf16) : Vec F S256x2880 .fp8e4m3 :=
  k0_pay9 (k0_pay6 x) (Scalar.ofBits .f32 0xC3E00000#32) (Scalar.ofBits .f32 0x43E00000#32)

/-- The adapter's intermediate, masked to each token's own adapter: what point 0 leaves in the second scratch buffer. -/
def adapt (x : Vec F S2880x256 .bf16) (a : Vec F S40x2880 .bf16) (idx : Vec F S1x256 .i32) : Vec F S256x40 .bf16 :=
  k0_pay1 (k0_pay11 (k0_pay3 x) a) k0_pay12 k0_pay13 k0_pay14 idx

/-- The scales: what point 0 stores in the scale output. -/
def scales (x : Vec F S2880x256 .bf16) : Vec F S1x256 .f32 := k0_pay5 x

/-- The scales as a column: what point 0 leaves in the third scratch buffer. -/
def scalesT (x : Vec F S2880x256 .bf16) : Vec F S256x1 .f32 := k0_pay10 (k0_pay5 x)

/-- One block of columns of the result, from the blocks of the weights and what point 0 left. -/
def ybl (x : Vec F S2880x256 .bf16) (a : Vec F S40x2880 .bf16) (idx : Vec F S1x256 .i32)
    (w : Vec F S2880x1280 .fp8e4m3) (ws : Vec F S1x1280 .f32) (b : Vec F S40x1280 .bf16) : Vec F S256x1280 .bf16 :=
  k0_pay2 (codes x) w (scalesT x) ws (adapt x a idx) b

/-! ## The condition and the buffers -/

/-- The condition of the body's `scf.if`. -/
abbrev cond0_0 (i : grid0.Coords) : Prop := k0_cond1 i = 1#1

/-- It holds at the first point only. -/
theorem hcond0_0 : ∀ t : Fin cfg0.N, cond0_0 (grid0.coords t) ↔ t.val = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val = 0)

/-- Each window's current staging memref at point `t`, spelled as the pipeline passes it (`bodyAt0`), and its wholeness. -/
abbrev ms0_0 (t : Fin cfg0.N) : Memref sig .tc .vmem S2880x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x2880 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1280 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2880x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x2880 .fp8e4m3 := Memref.whole cc0_scratch0
abbrev scM0_1 : Memref sig .tc .vmem S256x40 .bf16 := Memref.whole cc0_scratch1
abbrev scM0_2 : Memref sig .tc .vmem S256x1 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Two zero offsets are the zero function. -/
theorem zero2 : (![0, 0] : Fin 2 → Nat) = fun _ => 0 := by decide

/-- A load of a whole rank-2 buffer reads its contents. -/
theorem load2 {a b : Nat} {e : EltTy} {sp : Space} (v : View sig .tc sp ⟨2, ![a, b]⟩ e) (f : v.ty.Contents (Elt F))
    (inb : ∀ k, (![0, 0] : Fin 2 → Nat) k + (![a, b] : Fin 2 → Nat) k ≤ (![a, b] : Fin 2 → Nat) k) :
    v.readAt (Elt F) (Rect.unit (s := ⟨2, ![a, b]⟩) ![0, 0] ![a, b] inb).toLoadRect f = v.read (Elt F) f :=
  View.ld_unit_zero zero2 inb _

/-- A load of a whole rank-2 buffer after one store of the whole of it reads what was stored. -/
theorem cov2 {a b : Nat} {e : EltTy} {sp : Space} (v : View sig .tc sp ⟨2, ![a, b]⟩ e)
    (inb : ∀ k, (![0, 0] : Fin 2 → Nat) k + (![a, b] : Fin 2 → Nat) k ≤ (![a, b] : Fin 2 → Nat) k)
    (w : (⟨2, ![a, b]⟩ : Shape).Idx → Elt F e) :
    v.readCov [(⟨Rect.unit (s := ⟨2, ![a, b]⟩) ![0, 0] ![a, b] inb, w⟩ : View.Piece (Elt F) ⟨2, ![a, b]⟩ e)]
      (Rect.unit (s := ⟨2, ![a, b]⟩) ![0, 0] ![a, b] inb).toLoadRect = w :=
  View.readCov_unit_zero v zero2 inb w

/-- A buffer whose one store went through the whole-shape rectangle reads what was stored. -/
theorem read_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon _ _ _ (fun y => ⟨_, List.mem_singleton_self _, View.mem_set_unit_zero h inb y⟩)).trans
    (View.canon_unit_zero h inb w)

end Cert.KernelIdeal.Val

end
-- ==== Proof.RunA.lean ====
/- The body of the idealized kernel at the first grid point, every buffer it writes named (Run.lean). -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import proofs.«01_k».proof.Proof.Run

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the inputs' buffers keep their contents; the outputs and the scratch end at the named values. -/
theorem runA (c : Dev nD) (i : grid0.Coords) (arg1 : Memref sig .tc .vmem S2880x256 .bf16) (harg1 : arg1.IsWhole) (arg2 : Memref sig .tc .vmem S2880x1280 .fp8e4m3) (harg2 : arg2.IsWhole) (arg3 : Memref sig .tc .vmem S1x1280 .f32) (harg3 : arg3.IsWhole) (arg4 : Memref sig .tc .vmem S40x2880 .bf16) (harg4 : arg4.IsWhole) (arg5 : Memref sig .tc .vmem S40x1280 .bf16) (harg5 : arg5.IsWhole) (arg6 : Memref sig .tc .vmem S1x256 .i32) (harg6 : arg6.IsWhole) (arg7 : Memref sig .tc .vmem S256x1280 .bf16) (harg7 : arg7.IsWhole) (arg8 : Memref sig .tc .vmem S2880x256 .fp8e4m3) (harg8 : arg8.IsWhole) (arg9 : Memref sig .tc .vmem S1x256 .f32) (harg9 : arg9.IsWhole) (arg10 : Memref sig .tc .vmem S256x2880 .fp8e4m3) (harg10 : arg10.IsWhole) (arg11 : Memref sig .tc .vmem S256x40 .bf16) (harg11 : arg11.IsWhole) (arg12 : Memref sig .tc .vmem S256x1 .f32) (harg12 : arg12.IsWhole) (hc0 : cond0_0 i)
    (x0 : Vec F S2880x256 .bf16) (x1 : Vec F S2880x1280 .fp8e4m3) (x2 : Vec F S1x1280 .f32) (x3 : Vec F S40x2880 .bf16) (x4 : Vec F S40x1280 .bf16) (x5 : Vec F S1x256 .i32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (ybl x0 x3 x5 x1 x2 x4) ∗ owns (c : Thread nD τ) arg8 fullShare (codesT x0) ∗ owns (c : Thread nD τ) arg9 fullShare (scales x0) ∗ owns (c : Thread nD τ) arg10 fullShare (codes x0) ∗ owns (c : Thread nD τ) arg11 fullShare (adapt x0 x3 x5) ∗ owns (c : Thread nD τ) arg12 fullShare (scalesT x0)) -∗ K ⟨⟩))
      ⊢ wp frame (wpE (defs₀ (F := F)) Variants.none c none) E (cc0_fp8_multi_lora i arg1 harg1 arg2 harg2 arg3 harg3 arg4 harg4 arg5 harg5 arg6 harg6 arg7 harg7 arg8 harg8 arg9 harg9 arg10 harg10 arg11 harg11 arg12 harg12) K := by
  simp only [cc0_fp8_multi_lora_eq_skeleton]; unfold cc0_fp8_multi_lora_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
  subst hf0 hf1 hf2 hf3 hf4 hf5
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_store _ _ zero2 _ _).trans ?_
    sl_unfold_run_names
    simp only [load2, cov2]
    try rfl
  isplitl [H7]
  · iexists _; isplitr; swap; · iexact H7
    ipureintro
    refine (read_store _ _ zero2 _ _).trans ?_
    sl_unfold_run_names
    simp only [load2, cov2]
    try rfl
  isplitl [H8]
  · iexists _; isplitr; swap; · iexact H8
    ipureintro
    refine (read_store _ _ zero2 _ _).trans ?_
    sl_unfold_run_names
    simp only [load2, cov2]
    try rfl
  isplitl [HS0]
  · iexists _; isplitr; swap; · iexact HS0
    ipureintro
    refine (read_store _ _ zero2 _ _).trans ?_
    sl_unfold_run_names
    simp only [load2, cov2]
    try rfl
  isplitl [HS1]
  · iexists _; isplitr; swap; · iexact HS1
    ipureintro
    refine (read_store _ _ zero2 _ _).trans ?_
    sl_unfold_run_names
    simp only [load2, cov2]
    try rfl
  · iexists _; isplitr; swap; · iexact HS2
    ipureintro
    refine (read_store _ _ zero2 _ _).trans ?_
    sl_unfold_run_names
    simp only [load2, cov2]
    try rfl

end Cert.KernelIdeal.Val

end
-- ==== Proof.RunB.lean ====
/- The body of the idealized kernel at a later grid point, every buffer it writes named (Run.lean). -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import proofs.«01_k».proof.Proof.Run

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at any other point: it stores one block of the result, and leaves the other outputs and the scratch as they are. -/
theorem runB (c : Dev nD) (i : grid0.Coords) (arg1 : Memref sig .tc .vmem S2880x256 .bf16) (harg1 : arg1.IsWhole) (arg2 : Memref sig .tc .vmem S2880x1280 .fp8e4m3) (harg2 : arg2.IsWhole) (arg3 : Memref sig .tc .vmem S1x1280 .f32) (harg3 : arg3.IsWhole) (arg4 : Memref sig .tc .vmem S40x2880 .bf16) (harg4 : arg4.IsWhole) (arg5 : Memref sig .tc .vmem S40x1280 .bf16) (harg5 : arg5.IsWhole) (arg6 : Memref sig .tc .vmem S1x256 .i32) (harg6 : arg6.IsWhole) (arg7 : Memref sig .tc .vmem S256x1280 .bf16) (harg7 : arg7.IsWhole) (arg8 : Memref sig .tc .vmem S2880x256 .fp8e4m3) (harg8 : arg8.IsWhole) (arg9 : Memref sig .tc .vmem S1x256 .f32) (harg9 : arg9.IsWhole) (arg10 : Memref sig .tc .vmem S256x2880 .fp8e4m3) (harg10 : arg10.IsWhole) (arg11 : Memref sig .tc .vmem S256x40 .bf16) (harg11 : arg11.IsWhole) (arg12 : Memref sig .tc .vmem S256x1 .f32) (harg12 : arg12.IsWhole) (hc0 : ¬ cond0_0 i)
    (x0 : Vec F S2880x256 .bf16) (x1 : Vec F S2880x1280 .fp8e4m3) (x2 : Vec F S1x1280 .f32) (x3 : Vec F S40x2880 .bf16) (x4 : Vec F S40x1280 .bf16) (x5 : Vec F S1x256 .i32) (y7 : Vec F S2880x256 .fp8e4m3) (y8 : Vec F S1x256 .f32) (s0 : Vec F S256x2880 .fp8e4m3) (s1 : Vec F S256x40 .bf16) (s2 : Vec F S256x1 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ owns (c : Thread nD τ) arg8 fullShare (y7) ∗ owns (c : Thread nD τ) arg9 fullShare (y8) ∗ owns (c : Thread nD τ) arg10 fullShare (s0) ∗ owns (c : Thread nD τ) arg11 fullShare (s1) ∗ owns (c : Thread nD τ) arg12 fullShare (s2)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (k0_pay2 s0 x1 s2 x2 s1 x4) ∗ owns (c : Thread nD τ) arg8 fullShare (y7) ∗ owns (c : Thread nD τ) arg9 fullShare (y8) ∗ owns (c : Thread nD τ) arg10 fullShare (s0) ∗ owns (c : Thread nD τ) arg11 fullShare (s1) ∗ owns (c : Thread nD τ) arg12 fullShare (s2)) -∗ K ⟨⟩))
      ⊢ wp frame (wpE (defs₀ (F := F)) Variants.none c none) E (cc0_fp8_multi_lora i arg1 harg1 arg2 harg2 arg3 harg3 arg4 harg4 arg5 harg5 arg6 harg6 arg7 harg7 arg8 harg8 arg9 harg9 arg10 harg10 arg11 harg11 arg12 harg12) K := by
  simp only [cc0_fp8_multi_lora_eq_skeleton]; unfold cc0_fp8_multi_lora_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, ⟨%fs2, %hfs2, HS2⟩, Hk⟩
  subst hf0 hf1 hf2 hf3 hf4 hf5 hf7 hf8 hfs0 hfs1 hfs2
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_store _ _ zero2 _ _).trans ?_
    sl_unfold_run_names
    simp only [load2, cov2]
    try rfl
  isplitl [H7]
  · iexists _; isplitr; swap; · iexact H7
    ipureintro; rfl
  isplitl [H8]
  · iexists _; isplitr; swap; · iexact H8
    ipureintro; rfl
  isplitl [HS0]
  · iexists _; isplitr; swap; · iexact HS0
    ipureintro; rfl
  isplitl [HS1]
  · iexists _; isplitr; swap; · iexact HS1
    ipureintro; rfl
  · iexists _; isplitr; swap; · iexact HS2
    ipureintro; rfl

end Cert.KernelIdeal.Val

end
-- ==== Proof.Data.lean ====
/- The idealized kernel's run, its buffers named at every grid point: the scratch buffers and the two outputs that are written
   back only at the end hold, from the first point on, what the first point computed. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pipeline.TableIdle
public import proofs.«01_k».proof.Proof.RunA
public import proofs.«01_k».proof.Proof.RunB

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point reads -/

/-- The first grid point. -/
abbrev t0 : Fin cfg0.N := ⟨0, by rw [show cfg0.N = 9 from N_0]; omega⟩

/-- The activations, the adapters' first factors and the adapter numbers as the first point reads them. -/
def blkX (c : Dev nD) : Vec F S2880x256 .bf16 := iblk m c 0 t0
def blkA (c : Dev nD) : Vec F S40x2880 .bf16 := iblk m c 3 t0
def blkI (c : Dev nD) : Vec F S1x256 .i32 := iblk m c 5 t0

/-! ## The proof data -/

/-- The scratch buffers and the generator register before the point at position `n`: at anything before the first, then at
    what the first left. -/
def carried (c : Dev nD) (n : ℕ) : sProp 𝕄 :=
  if n = 0 then Pipeline.ΦA spec0 c
  else iprop((owns (c : Thread nD τ) scM0_0 fullShare (codes (blkX m c))
    ∗ owns (c : Thread nD τ) scM0_1 fullShare (adapt (blkX m c) (blkA m c) (blkI m c))
    ∗ owns (c : Thread nD τ) scM0_2 fullShare (scalesT (blkX m c))) ∗ (∃ r, prngReg c r))

theorem carried_zero (c : Dev nD) : carried m c 0 = (Pipeline.ΦA spec0 c : sProp 𝕄) := by
  unfold carried; rw [if_pos rfl]

theorem carried_pos (c : Dev nD) (n : ℕ) (h : n ≠ 0) : carried m c n
    = iprop((owns (c : Thread nD τ) scM0_0 fullShare (codes (blkX m c))
    ∗ owns (c : Thread nD τ) scM0_1 fullShare (adapt (blkX m c) (blkA m c) (blkI m c))
    ∗ owns (c : Thread nD τ) scM0_2 fullShare (scalesT (blkX m c))) ∗ (∃ r, prngReg c r)) := by
  unfold carried; rw [if_neg h]

/-- The proof data: after the body at point `t` each input's buffer is at its block, the result's at its block of columns, and
    the codes' and the scales' at what the first point stored. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ybl (blkX m c) (blkA m c) (blkI m c) (iblk m c 1 t) (iblk m c 2 t) (iblk m c 4 t)
    | ⟨7, _⟩ => codesT (blkX m c)
    | ⟨8, _⟩ => scales (blkX m c)
  Φ t := carried m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = ybl (blkX m c) (blkA m c) (blkI m c) (iblk m c 1 t) (iblk m c 2 t) (iblk m c 4 t) := by dsimp only [dats]
theorem after0_7 (c : Dev nD) (t : Fin cfg0.N) : (dats m 0 c).after 7 t = codesT (blkX m c) := by dsimp only [dats]
theorem after0_8 (c : Dev nD) (t : Fin cfg0.N) : (dats m 0 c).after 8 t = scales (blkX m c) := by dsimp only [dats]

/-! Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The codes' window is idle exactly at the points after the first. -/
theorem idle0_7 (t : Fin cfg0.N) : cfg0.idle 7 (grid0.coords t) = !decide (t.val = 0) := by
  have h : cfg0.idle 7 (grid0.coords t) = !(k0_cond1 (grid0.coords t) == 1#1) := rfl
  rw [h]
  congr 1
  by_cases h0 : t.val = 0
  · rw [decide_eq_true h0, beq_iff_eq]; exact (hcond0_0 t).mpr h0
  · rw [decide_eq_false h0, beq_eq_false_iff_ne]; exact fun e => h0 ((hcond0_0 t).mp e)

/-- It is written back at the last point only. -/
theorem noflush0_7 (t : Fin cfg0.N) (h : t.val ≠ 8) : (cfg0.win 7).flush t = false := by
  have ht : t.val < 9 := lt_of_lt_of_eq t.isLt N_0
  cases hf : (cfg0.win 7).flush t
  · rfl
  · have := (flush0_7 t).mp hf; omega

/-- So from the second point on its buffer still holds what the first point stored. -/
theorem fresh0_7 : ∀ n, n + 1 < 9 → cfg0.fresh 7 (n + 1) = false
  | 0, h => by
    have hN : 0 < cfg0.N := by rw [show cfg0.N = 9 from N_0]; omega
    rw [Pipeline.Cfg.fresh_succ cfg0 7 0 hN, noflush0_7 ⟨0, hN⟩ (by simp)]
    have e : cfg0.idle 7 (grid0.coords ⟨0, hN⟩) = false := (idle0_7 ⟨0, hN⟩).trans (by simp)
    show (false || (cfg0.idle 7 (grid0.coords ⟨0, hN⟩) && _)) = false
    rw [e]; rfl
  | n + 1, h => by
    have hN : n + 1 < cfg0.N := by rw [show cfg0.N = 9 from N_0]; omega
    rw [Pipeline.Cfg.fresh_succ cfg0 7 (n + 1) hN, noflush0_7 ⟨n + 1, hN⟩ (by simp only; omega), fresh0_7 n (by omega)]
    simp

/-- What the body finds in it after the first point. -/
theorem before0_7 (c : Dev nD) (t : Fin cfg0.N) (h : t.val ≠ 0) (d) : (dats m 0 c).before 7 t d = codesT (blkX m c) := by
  have ht : t.val < 9 := lt_of_lt_of_eq t.isLt N_0
  have hf : cfg0.fresh 7 t.val = false := by
    obtain ⟨n, hn⟩ := Nat.exists_eq_succ_of_ne_zero h
    rw [hn]; exact fresh0_7 n (by omega)
  rw [(dats m 0 c).before_out_traj 7 rfl (fun _ _ => rfl) (fun t _ _ _ => by rw [after0_7, after0_7]) t.val t rfl d]
  show (if cfg0.fresh 7 t.val = true then d else (dats m 0 c).after 7 _) = _
  rw [hf, after0_7]
  rfl

/-- What the body must leave in it, when it leaves that. -/
theorem leaves0_7 (c : Dev nD) (t : Fin cfg0.N) :
    owns (c : Thread nD τ) (ms0_7 t) fullShare (codesT (blkX m c)) ⊢ (dats m 0 c).leavesExact 7 t := by
  by_cases h0 : t.val = 0
  · have hi : cfg0.idle 7 (cfg0.grid.coords t) = false := (idle0_7 t).trans (by simp [h0])
    rw [show (dats m 0 c).leavesExact 7 t = owns (c : Thread nD τ) (ms0_7 t) fullShare ((dats m 0 c).after 7 t) from by
      unfold Dat.leavesExact; rw [hi], after0_7]
  · have hi : cfg0.idle 7 (cfg0.grid.coords t) = true := (idle0_7 t).trans (by simp [h0])
    cases hf : (cfg0.win 7).flush t
    · rw [(dats m 0 c).leavesExact_idle 7 t hi hf]
      iintro H
      iexists (dats m 0 c).after 7 t
      rw [before0_7 m c t h0]
      iexact H
    · rw [show (dats m 0 c).leavesExact 7 t = owns (c : Thread nD τ) (ms0_7 t) fullShare ((dats m 0 c).after 7 t) from by
        unfold Dat.leavesExact; rw [hi, hf], after0_7]

/-- The scales' window is idle exactly at the points after the first. -/
theorem idle0_8 (t : Fin cfg0.N) : cfg0.idle 8 (grid0.coords t) = !decide (t.val = 0) := by
  have h : cfg0.idle 8 (grid0.coords t) = !(k0_cond1 (grid0.coords t) == 1#1) := rfl
  rw [h]
  congr 1
  by_cases h0 : t.val = 0
  · rw [decide_eq_true h0, beq_iff_eq]; exact (hcond0_0 t).mpr h0
  · rw [decide_eq_false h0, beq_eq_false_iff_ne]; exact fun e => h0 ((hcond0_0 t).mp e)

/-- It is written back at the last point only. -/
theorem noflush0_8 (t : Fin cfg0.N) (h : t.val ≠ 8) : (cfg0.win 8).flush t = false := by
  have ht : t.val < 9 := lt_of_lt_of_eq t.isLt N_0
  cases hf : (cfg0.win 8).flush t
  · rfl
  · have := (flush0_8 t).mp hf; omega

/-- So from the second point on its buffer still holds what the first point stored. -/
theorem fresh0_8 : ∀ n, n + 1 < 9 → cfg0.fresh 8 (n + 1) = false
  | 0, h => by
    have hN : 0 < cfg0.N := by rw [show cfg0.N = 9 from N_0]; omega
    rw [Pipeline.Cfg.fresh_succ cfg0 8 0 hN, noflush0_8 ⟨0, hN⟩ (by simp)]
    have e : cfg0.idle 8 (grid0.coords ⟨0, hN⟩) = false := (idle0_8 ⟨0, hN⟩).trans (by simp)
    show (false || (cfg0.idle 8 (grid0.coords ⟨0, hN⟩) && _)) = false
    rw [e]; rfl
  | n + 1, h => by
    have hN : n + 1 < cfg0.N := by rw [show cfg0.N = 9 from N_0]; omega
    rw [Pipeline.Cfg.fresh_succ cfg0 8 (n + 1) hN, noflush0_8 ⟨n + 1, hN⟩ (by simp only; omega), fresh0_8 n (by omega)]
    simp

/-- What the body finds in it after the first point. -/
theorem before0_8 (c : Dev nD) (t : Fin cfg0.N) (h : t.val ≠ 0) (d) : (dats m 0 c).before 8 t d = scales (blkX m c) := by
  have ht : t.val < 9 := lt_of_lt_of_eq t.isLt N_0
  have hf : cfg0.fresh 8 t.val = false := by
    obtain ⟨n, hn⟩ := Nat.exists_eq_succ_of_ne_zero h
    rw [hn]; exact fresh0_8 n (by omega)
  rw [(dats m 0 c).before_out_traj 8 rfl (fun _ _ => rfl) (fun t _ _ _ => by rw [after0_8, after0_8]) t.val t rfl d]
  show (if cfg0.fresh 8 t.val = true then d else (dats m 0 c).after 8 _) = _
  rw [hf, after0_8]
  rfl

/-- What the body must leave in it, when it leaves that. -/
theorem leaves0_8 (c : Dev nD) (t : Fin cfg0.N) :
    owns (c : Thread nD τ) (ms0_8 t) fullShare (scales (blkX m c)) ⊢ (dats m 0 c).leavesExact 8 t := by
  by_cases h0 : t.val = 0
  · have hi : cfg0.idle 8 (cfg0.grid.coords t) = false := (idle0_8 t).trans (by simp [h0])
    rw [show (dats m 0 c).leavesExact 8 t = owns (c : Thread nD τ) (ms0_8 t) fullShare ((dats m 0 c).after 8 t) from by
      unfold Dat.leavesExact; rw [hi], after0_8]
  · have hi : cfg0.idle 8 (cfg0.grid.coords t) = true := (idle0_8 t).trans (by simp [h0])
    cases hf : (cfg0.win 8).flush t
    · rw [(dats m 0 c).leavesExact_idle 8 t hi hf]
      iintro H
      iexists (dats m 0 c).after 8 t
      rw [before0_8 m c t h0]
      iexact H
    · rw [show (dats m 0 c).leavesExact 8 t = owns (c : Thread nD τ) (ms0_8 t) fullShare ((dats m 0 c).after 8 t) from by
        unfold Dat.leavesExact; rw [hi, hf], after0_8]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = carried m c t.val from rfl, show (dats m 0 c).Φ t.succ = carried m c (t.val + 1) from rfl]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [carried_pos m c _ (Nat.succ_ne_zero _)]
  by_cases h0 : t.val = 0
  · obtain rfl : t = t0 := Fin.ext h0
    rw [show carried m c (t0).val = _ from carried_zero m c, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t0) _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t0); iexact H7
    iapply (leaves0_8 m c t0); iexact H8
  · rw [carried_pos m c _ h0]
    simp only [before0_7 m c t h0, before0_8 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t); iexact H7
    iapply (leaves0_8 m c t); iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair run of the program terminates with every array of the pipeline at what the proof data says of it, the lines after
    the region applied, and every semaphore at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Pipeline.ΦA spec0 c from carried_zero m c])
    (hout := fun c => by
      rw [show (dats m 0 c).Φ (Fin.last (cfgs 0).N) = _ from carried_pos m c cfg0.N (by rw [show cfg0.N = 9 from N_0]; omega), show (cfgs 0).spec = spec0 from rfl, PhiA0_eq]
      iintro ⟨⟨HS0, HS1, HS2⟩, Hg⟩
      isplitl [HS0 HS1 HS2]
      · isplitl [HS0]
        · iexists _; iexact HS0
        isplitl [HS1]
        · iexists _; iexact HS1
        iexists _; iexact HS2
      iexact Hg)
    (Q' := fun r => Pipeline.FramePost cfgs (dats m) 0 (Pipeline.afterTail₀ cfgs (dats m) 0 (V0 m) [hostOps1]) r ∧ r.2.sem = fun _ => 0)
    (hQ' := fun _ h => h)

/-- The same without the semaphores. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiescent m ρ))

end Cert.KernelIdeal.Val

end
-- ==== Proof.Arrays.lean ====
/- The idealized kernel's three result arrays as functions of the arrays the launch region reads. -/
module

public import proofs.«01_k».proof.Proof.Data
public import Idealize.ShloMosaic.Lib.Pointwise
public import Idealize.ShloMosaic.Lib.IdealHost
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ)

/-- Which block each window is on at each point. -/
theorem idx : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, 0] ∧ win0_6.index t = ![0, t.val]
    ∧ win0_7.index t = ![0, 0] ∧ win0_8.index t = ![0, 0] := (by decide +kernel : ∀ t : Fin grid0.N, _)

/-- The activations' block is their whole array, -/
theorem blkX_eq (c : Dev nD) : blkX m c = V m c main_v1 := by unfold blkX; blk_ext! [iblk, idx t0]

/-- the adapters' first factors' block theirs, -/
theorem blkA_eq (c : Dev nD) : blkA m c = V m c main_v3 := by unfold blkA; blk_ext! [iblk, idx t0]

/-- and the adapter numbers' block theirs. -/
theorem blkI_eq (c : Dev nD) : blkI m c = V m c main_arg5 := by unfold blkI; blk_ext! [iblk, idx t0]

/-- The last grid point. -/
abbrev tl : Fin cfg0.N := ⟨8, by rw [show cfg0.N = 9 from N_0]; omega⟩

/-- The codes' array ends at the codes the first point stored. -/
theorem final7 (c : Dev nD) : (dats m 0 c).arrAt 7 (cfgs 0).N = codesT (blkX m c) := by
  refine (dats m 0 c).arrAt_eq_of_after_last 7 tl (by decide +kernel) _ fun j => ?_
  blk_simp
  rw [after0_7]

/-- The scales' array ends at the scales the first point stored. -/
theorem final8 (c : Dev nD) : (dats m 0 c).arrAt 8 (cfgs 0).N = scales (blkX m c) := by
  refine (dats m 0 c).arrAt_eq_of_after_last 8 tl (by decide +kernel) _ fun j => ?_
  blk_simp
  rw [after0_8]

/-- The result at a token and a column: the scaled product of the codes with the weights, plus twice the adapter's product. -/
def yval (x : Vec Ideal S2880x256 .bf16) (a : Vec Ideal S40x2880 .bf16) (i : Vec Ideal S1x256 .i32)
    (w : Vec Ideal S2880x11520 .fp8e4m3) (ws : Vec Ideal S1x11520 .f32) (b : Vec Ideal S40x11520 .bf16) : Vec Ideal S256x11520 .bf16 :=
  fun j => (∑ k : Fin 2880, codes x (ix2 (j 0) k) * w (ix2 k (j 1))) * scalesT x (ix2 (j 0) 0) * ws (ix2 0 (j 1))
    + (∑ q : Fin 40, adapt x a i (ix2 (j 0) q) * b (ix2 q (j 1))) * Ideal.ofBits .f32 1073741824#32

/-- The result's array ends at that. -/
theorem final6 (c : Dev nD) : (dats m 0 c).arrAt 6 (cfgs 0).N
    = yval (blkX m c) (blkA m c) (blkI m c) (V m c main_arg1) (V m c main_v5) (V m c main_v4) := by
  refine (dats m 0 c).arrAt_eq_of_covers 6 _ (by decide +kernel) fun t hf y => ?_
  blk_simp
  rw [after0_6]
  pointwise [ybl, k0_pay2, yval]
  blk_point [iblk, idx t]

/-! ## The host's lines -/

theorem V_v1 (c : Dev nD) : V m c main_v1 = transpose S2880x256 [1, 0]
    (shapeCast S256x2880 (m ((c : Thread nD τ).loc main_arg0)) shapeCasts_S1x256x2880_S256x2880) transposes_S256x2880_S2880x256_1_0 := by
  change StableHlo.after hostOps0 (fun b => m (c, b)) (Proc.devRef .tc main_v1) = _
  after_results
  try rfl

theorem V_v3 (c : Dev nD) : V m c main_v3 = shapeCast S40x2880 (transpose S5x8x2880 [0, 2, 1]
    (m ((c : Thread nD τ).loc main_arg3)) transposes_S5x2880x8_S5x8x2880_0_2_1) shapeCasts_S5x8x2880_S40x2880 := by
  change StableHlo.after hostOps0 (fun b => m (c, b)) (Proc.devRef .tc main_v3) = _
  after_results
  try rfl

theorem V_v4 (c : Dev nD) : V m c main_v4 = shapeCast S40x11520 (m ((c : Thread nD τ).loc main_arg4)) shapeCasts_S5x8x11520_S40x11520 := by
  change StableHlo.after hostOps0 (fun b => m (c, b)) (Proc.devRef .tc main_v4) = _
  after_results
  try rfl

theorem V_v5 (c : Dev nD) : V m c main_v5 = shapeCast S1x11520 (m ((c : Thread nD τ).loc main_arg2)) shapeCasts_S11520_S1x11520 := by
  change StableHlo.after hostOps0 (fun b => m (c, b)) (Proc.devRef .tc main_v5) = _
  after_results
  try rfl

end Cert.KernelIdeal.Val

end
-- ==== Proof.Results.lean ====
/- The idealized kernel's run with its three results named: what the host's last lines make of the launch region's arrays. -/
module

public import proofs.«01_k».proof.Proof.Arrays

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (ρ : Dev nD → PrngReg)

/-- The buffers as the launch region leaves them. -/
abbrev after0 (c : Dev nD) : Valuation τ sig (Elt Ideal) :=
  Pipeline.withArrays (cfgs 0).spec c (V0 m c) fun w => (dats m 0 c).arrAt w (cfgs 0).N

theorem after0_y (c : Dev nD) : after0 m c (Proc.devRef .tc main_v6_0) = (dats m 0 c).arrAt 6 (cfgs 0).N :=
  Pipeline.withArrays_arr (cfgs 0).spec (by decide) c (V0 m c) _ 6

theorem after0_ct (c : Dev nD) : after0 m c (Proc.devRef .tc main_v6_1) = (dats m 0 c).arrAt 7 (cfgs 0).N :=
  Pipeline.withArrays_arr (cfgs 0).spec (by decide) c (V0 m c) _ 7

/-- The first result is the region's first array with a leading axis added. -/
theorem tail_y (c : Dev nD) : Pipeline.afterTail₀ cfgs (dats m) 0 (V0 m) [hostOps1] c main_v7
    = shapeCast S1x256x11520 (yval (blkX m c) (blkA m c) (blkI m c) (V m c main_arg1) (V m c main_v5) (V m c main_v4))
        shapeCasts_S256x11520_S1x256x11520 := by
  rw [← final6]
  change StableHlo.after hostOps1 (after0 m c) (Proc.devRef .tc main_v7) = _
  after_results
  rw [after0_y]
  try rfl

/-- The second result is the region's second array transposed, with a leading axis added. -/
theorem tail_codes (c : Dev nD) : Pipeline.afterTail₀ cfgs (dats m) 0 (V0 m) [hostOps1] c main_v9
    = shapeCast S1x256x2880 (transpose S256x2880 [1, 0] (codesT (blkX m c)) transposes_S2880x256_S256x2880_1_0)
        shapeCasts_S256x2880_S1x256x2880 := by
  rw [← final7]
  change StableHlo.after hostOps1 (after0 m c) (Proc.devRef .tc main_v9) = _
  after_results
  rw [after0_ct]
  try rfl

/-- The run: the results are these, and the arguments are unchanged. -/
theorem results : θ_run defs (onTc (τ := τ) (main (F := Ideal))) (s₀ m ρ) (fun r => ∀ c : Dev nD,
      r.2.mem ((c.tc : Thread nD τ).loc main_v7) = shapeCast S1x256x11520
        (yval (blkX m c) (blkA m c) (blkI m c) (V m c main_arg1) (V m c main_v5) (V m c main_v4)) shapeCasts_S256x11520_S1x256x11520
      ∧ r.2.mem ((c.tc : Thread nD τ).loc main_v9) = shapeCast S1x256x2880
        (transpose S256x2880 [1, 0] (codesT (blkX m c)) transposes_S2880x256_S256x2880_1_0) shapeCasts_S256x2880_S1x256x2880
      ∧ r.2.mem ((c.tc : Thread nD τ).loc main_v6_2) = scales (blkX m c)) := by
  refine (θ_run defs _ _).mono (fun r h c => ?_) (run m ρ)
  obtain ⟨hw, hr⟩ := h c
  refine ⟨?_, ?_, ?_⟩
  · rw [← tail_y]
    exact hr main_v7 (Pipeline.mem_restRefs_of main_v7 (by decide) (by decide))
  · rw [← tail_codes]
    exact hr main_v9 (Pipeline.mem_restRefs_of main_v9 (by decide) (by decide))
  · rw [← final8]
    exact hw 8

end Cert.KernelIdeal.Val

end
-- ==== Proof.Reference.lean ====
/- The reference's run with its three results named: its one grid point's values over the argument arrays, read at an index. -/
module

public import proofs.«01_k».proof.Proof.Gen.ReferenceIdeal.Frame
public import proofs.«01_k».proof.Proof.Gen.ReferenceIdeal.Skeleton
public import proofs.«01_k».proof.Proof.Gen.ReferenceIdeal.Launch
public import proofs.«01_k».proof.Proof.Gen.ReferenceIdeal.Points
public import Idealize.ShloMosaic.Lib.Pipeline.ValueKit
public import Idealize.ShloMosaic.Lib.Pointwise
public import Idealize.ShloMosaic.Lib.IdealHost
public import Idealize.ShloMosaic.Lib.Claim

@[expose] public section

set_option maxRecDepth 16384

noncomputable section

namespace Cert.ReferenceIdeal.Val

open Cert.ReferenceIdeal.Gen
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (ρ : Dev nD → PrngReg)

/-- Every window's block is its whole array. -/
theorem idx : ∀ t : Fin cfg0.N, win0_0.index t = ![0, 0, 0] ∧ win0_1.index t = ![0, 0] ∧ win0_2.index t = ![0]
    ∧ win0_3.index t = ![0, 0, 0] ∧ win0_4.index t = ![0, 0, 0] ∧ win0_5.index t = ![0, 0] ∧ win0_6.index t = ![0, 0, 0]
    ∧ win0_7.index t = ![0, 0, 0] ∧ win0_8.index t = ![0, 0] := (by decide +kernel : ∀ t : Fin grid0.N, _)

/-- The only grid point. -/
abbrev t0 : Fin cfg0.N := ⟨0, by decide⟩

/-- One adapter's product at a token and a column: zero unless the token's adapter number is `n`. -/
def lora (x : Vec Ideal S1x256x2880 .bf16) (a : Vec Ideal S5x2880x8 .bf16) (b : Vec Ideal S5x8x11520 .bf16) (i : Vec Ideal S1x256 .i32)
    (n : Fin 5) (r : Fin 256) (j : Fin 11520) : EReal :=
  ∑ k : Fin 8, Scalar.select (IntOp.cmpi .eq (i (ix2 0 r)) (BitVec.ofNat 32 n.val))
    (∑ d : Fin 2880, x (ix3 0 r d) * a (ix3 n d k)) 0 * b (ix3 n k j)

/-- The result at a token and a column. -/
def yval (x : Vec Ideal S1x256x2880 .bf16) (w : Vec Ideal S2880x11520 .fp8e4m3) (ws : Vec Ideal S11520 .f32)
    (a : Vec Ideal S5x2880x8 .bf16) (b : Vec Ideal S5x8x11520 .bf16) (i : Vec Ideal S1x256 .i32) : Vec Ideal S1x256x11520 .bf16 :=
  fun y => (∑ k : Fin 2880, k0_pay6 x (ix2 (y 1) k) * w (ix2 k (y 2))) * k0_pay5 x (ix1 (y 1)) * ws (ix1 (y 2))
    + (0 + lora x a b i 0 (y 1) (y 2) + lora x a b i 1 (y 1) (y 2) + lora x a b i 2 (y 1) (y 2) + lora x a b i 3 (y 1) (y 2)
        + lora x a b i 4 (y 1) (y 2)) * Ideal.ofBits .f32 1073741824#32

/-! ## The windows' blocks -/

theorem blk0 (c : Dev nD) : iblk m c 0 t0 = m ((c : Thread nD τ).loc main_arg0) := by blk_ext! [iblk, V, idx t0]
theorem blk1 (c : Dev nD) : iblk m c 1 t0 = m ((c : Thread nD τ).loc main_arg1) := by blk_ext! [iblk, V, idx t0]
theorem blk2 (c : Dev nD) : iblk m c 2 t0 = m ((c : Thread nD τ).loc main_arg2) := by blk_ext! [iblk, V, idx t0]
theorem blk3 (c : Dev nD) : iblk m c 3 t0 = m ((c : Thread nD τ).loc main_arg3) := by blk_ext! [iblk, V, idx t0]
theorem blk4 (c : Dev nD) : iblk m c 4 t0 = m ((c : Thread nD τ).loc main_arg4) := by blk_ext! [iblk, V, idx t0]
theorem blk5 (c : Dev nD) : iblk m c 5 t0 = m ((c : Thread nD τ).loc main_arg5) := by blk_ext! [iblk, V, idx t0]

/-! ## The results -/

/-- The codes' array ends at the codes, -/
theorem final7 (c : Dev nD) : (dats m 0 c).arrAt 7 (cfgs 0).N = k0_pay7 (m ((c : Thread nD τ).loc main_arg0)) := by
  refine (dats m 0 c).arrAt_eq_of_after_last 7 t0 (by decide +kernel) _ fun j => ?_
  blk_simp
  rw [after0_7]
  frame_out
  rw [blk0]

/-- the scales' at the scales, -/
theorem final8 (c : Dev nD) : (dats m 0 c).arrAt 8 (cfgs 0).N = k0_pay8 (m ((c : Thread nD τ).loc main_arg0)) := by
  refine (dats m 0 c).arrAt_eq_of_after_last 8 t0 (by decide +kernel) _ fun j => ?_
  blk_simp
  rw [after0_8]
  frame_out
  rw [blk0]

/-- The stored value over whole arrays, read at an index. -/
theorem stored (x : Vec Ideal S1x256x2880 .bf16) (w : Vec Ideal S2880x11520 .fp8e4m3) (ws : Vec Ideal S11520 .f32)
    (a : Vec Ideal S5x2880x8 .bf16) (b : Vec Ideal S5x8x11520 .bf16) (i : Vec Ideal S1x256 .i32) (r : Fin 256) (j : Fin 11520) :
    k0_pay1 (k0_pay2 x) (k0_pay9 (k0_pay5 x) (k0_pay6 x) w ws) (k0_pay10 i)
      (k0_pay15 (k0_pay2 x) (k0_pay10 i) (k0_pay11 (k0_pay2 x) i (View.ld a r0_4) (View.ld b r0_5))
        (k0_pay12 (k0_pay2 x) (View.ld a r0_6)) k0_pay13 (k0_pay14 i) (View.ld b r0_7) (View.ld a r0_8) (View.ld b r0_9)
        (View.ld a r0_10) (View.ld b r0_11)) (View.ld a r0_12) (View.ld b r0_13) (ix3 0 r j)
    = yval x w ws a b i (ix3 0 r j) := by
  pointwise [k0_pay1, k0_pay2, k0_pay9, k0_pay10, k0_pay15, k0_pay11, k0_pay12, k0_pay13, k0_pay14, yval, lora,
    r0_4, r0_5, r0_6, r0_7, r0_8, r0_9, r0_10, r0_11, r0_12, r0_13]

theorem ld_x (x : Vec Ideal S1x256x2880 .bf16) : View.ld x r0_0 = x := by
  funext i; idx_vars i; rw [Subsingleton.elim i0 0]; pointwise [r0_0]

theorem ld_i (x : Vec Ideal S1x256 .i32) : View.ld x r0_1 = x := by
  funext i; idx_vars i; rw [Subsingleton.elim i0 0]; pointwise [r0_1]

/-- and the result's at the result. -/
theorem final6 (c : Dev nD) : (dats m 0 c).arrAt 6 (cfgs 0).N
    = yval (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t0 (by decide +kernel) _ fun j => ?_
  blk_simp
  rw [after0_6]
  frame_out
  rw [blk0, blk1, blk2, blk3, blk4, blk5]
  unfold k0_pay16 k0_pay17
  rw [ld_x, ld_i]
  obtain ⟨q, r, k, rfl⟩ : ∃ (q : Fin 1) (r : Fin 256) (k : Fin 11520), j = ix3 q r k := ⟨j 0, j 1, j 2, by funext d; fin_cases d <;> rfl⟩
  rw [Subsingleton.elim q 0]
  exact stored _ _ _ _ _ _ r k

/-- The run: the results are these. -/
theorem results : θ_run defs (onTc (τ := τ) (main (F := Ideal))) (s₀ m ρ) (fun r => ∀ c : Dev nD,
      r.2.mem ((c.tc : Thread nD τ).loc main_v0_0)
        = yval (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v0_1) = k0_pay7 (m ((c : Thread nD τ).loc main_arg0))
      ∧ r.2.mem ((c.tc : Thread nD τ).loc main_v0_2) = k0_pay8 (m ((c : Thread nD τ).loc main_arg0))) := by
  refine (θ_run defs _ _).mono (fun r h c => ?_) (run_main m ρ)
  obtain ⟨hw, hr⟩ := h c
  refine ⟨?_, ?_, ?_⟩
  · rw [← final6]
    exact hw 6
  · rw [← final7]
    exact hw 7
  · rw [← final8]
    exact hw 8

end Cert.ReferenceIdeal.Val

end
-- ==== Proof.Exponent.lean ====
/- The quantiser's exponent, as mathematics on the extended reals: the kernel finds it by a search over the exponent fields of
   the single-precision format, the reference by a logarithm, and the powers of two built from the one are those of the other. -/
module

public import Idealize.ShloMosaic.PureOps.Ideal
public import Idealize.ShloMosaic.Lib.Pointwise
public import Mathlib.Analysis.SpecialFunctions.Log.Basic
public import Mathlib.Analysis.SpecialFunctions.Pow.Real

@[expose] public section

set_option maxRecDepth 16384

noncomputable section

namespace Cert.Exponent

open Idealize.ShloMosaic

/-! ## The two exponents -/

/-- The single-precision number whose exponent field is the word `b`, its other bits zero. -/
def power (b : BitVec 32) : EReal := Ideal.ofBits .f32 (IntOp.shli .vector b 23#32)

/-- The kernel's search: the largest exponent field whose number is at most `v`. -/
def field (v : EReal) : BitVec 32 :=
  Finset.fold IntOp.maxsi (2147483648#32)
    (fun j : Fin 256 => if power (BitVec.ofNat 32 j.val) ≤ v then BitVec.ofNat 32 j.val else 0#32) Finset.univ

/-- The kernel's exponent: zero at the two ends of the range of fields, else the field less 126. -/
def kexp (v : EReal) : BitVec 32 :=
  Scalar.select (IntOp.ori (IntOp.cmpi .eq (field v) 0#32) (IntOp.cmpi .eq (field v) 255#32)) 0#32
    (IntOp.subi (field v) 126#32)

/-- The scale the kernel builds from its exponent, and the factor it multiplies by. -/
def kscale (v : EReal) : EReal := power (IntOp.addi (kexp v) 127#32)
def kinv (v : EReal) : EReal := power (IntOp.addi (IntOp.subi 0#32 (kexp v)) 127#32)

/-- The reference's magnitude: zero below the smallest normal number. -/
def flush (v : EReal) : EReal := if v < Ideal.ofBits .f32 8388608#32 then 0 else v

/-- The reference's exponent: the floor of the base-2 logarithm, plus one; zero at zero. -/
def rexp (v : EReal) : EReal :=
  if flush v = 0 then 0
  else Ideal.liftRound Int.floor (Ideal.div (Ideal.log (flush v)) (Ideal.log (Ideal.ofBits .f32 1073741824#32))) + 1

/-! ## The words -/

theorem sign_word : ∀ j : Fin 256, ((BitVec.ofNat 32 j.val <<< 23).extractLsb' 31 1 == 1#1) = decide (256 ≤ j.val) := by
  decide +kernel

theorem exp_word : ∀ j : Fin 256, ((BitVec.ofNat 32 j.val <<< 23).extractLsb' 23 8).toNat = j.val := by decide +kernel

theorem frac_word : ∀ j : Fin 256, ((BitVec.ofNat 32 j.val <<< 23).extractLsb' 0 23).toNat = 0 := by decide +kernel

theorem up_word : ∀ j : Fin 256, 1 ≤ j.val → j.val ≤ 252 →
    IntOp.addi (IntOp.subi (BitVec.ofNat 32 j.val) 126#32) 127#32 = BitVec.ofNat 32 (j.val + 1) := by decide +kernel

theorem down_word : ∀ j : Fin 256, 1 ≤ j.val → j.val ≤ 252 →
    IntOp.addi (IntOp.subi 0#32 (IntOp.subi (BitVec.ofNat 32 j.val) 126#32)) 127#32 = BitVec.ofNat 32 (253 - j.val) := by
  decide +kernel

theorem inside_word : ∀ j : Fin 256, 1 ≤ j.val → j.val ≤ 254 →
    IntOp.ori (IntOp.cmpi .eq (BitVec.ofNat 32 j.val) 0#32) (IntOp.cmpi .eq (BitVec.ofNat 32 j.val) 255#32) = 0#1 := by
  decide +kernel

theorem int_word : ∀ j : Fin 256, (BitVec.ofNat 32 j.val).toInt = j.val := by decide +kernel

/-! ## The powers -/

/-- A field strictly inside the range is a power of two. -/
theorem power_inside (j : Nat) (h1 : 1 ≤ j) (h2 : j ≤ 254) :
    power (BitVec.ofNat 32 j) = (((2 : ℝ) ^ ((j : ℤ) - 127) : ℝ) : EReal) := by
  have hs := sign_word ⟨j, by omega⟩
  have he := exp_word ⟨j, by omega⟩
  have hf := frac_word ⟨j, by omega⟩
  simp only at hs he hf
  have hsh : IntOp.shli .vector (BitVec.ofNat 32 j) 23#32 = BitVec.ofNat 32 j <<< 23 := by
    unfold IntOp.shli; rw [if_pos (by decide)]; rfl
  unfold power
  rw [hsh]
  simp only [Ideal.ofBits, Ideal.ieee]
  rw [he, hf, hs, if_neg (by omega), if_neg (by omega), decide_eq_false (by omega)]
  simp only [Bool.false_eq_true, if_false, one_mul, EReal.coe_eq_coe_iff]
  push_cast
  rw [show ((j : ℤ) - 127) = 23 + ((j : ℤ) - (2 ^ (8 - 1) - 1) - 23) by norm_num, zpow_add₀ (by norm_num)]
  norm_num

/-- Field 0 is zero. -/
theorem power_zero : power (BitVec.ofNat 32 0) = 0 := by
  unfold power
  rw [show IntOp.shli .vector (BitVec.ofNat 32 0) 23#32 = 0#32 by decide]
  simp [Ideal.ofBits, Ideal.ieee]

/-- Field 255 is infinite. -/
theorem power_top : power (BitVec.ofNat 32 255) = ⊤ := by
  unfold power
  rw [show IntOp.shli .vector (BitVec.ofNat 32 255) 23#32 = 2139095040#32 by decide]
  simp [Ideal.ofBits, Ideal.ieee]

/-- The smallest normal number. -/
theorem small_eq : Ideal.ofBits .f32 8388608#32 = (((2 : ℝ) ^ (-126 : ℤ) : ℝ) : EReal) := by
  have h := power_inside 1 (le_refl _) (by omega)
  have e : IntOp.shli .vector (BitVec.ofNat 32 1) 23#32 = 8388608#32 := by decide
  unfold power at h
  rw [e] at h
  rw [h]; norm_num

/-- Two. -/
theorem two_eq : Ideal.ofBits .f32 1073741824#32 = ((2 : ℝ) : EReal) := by
  have h := power_inside 128 (by omega) (by omega)
  have e : IntOp.shli .vector (BitVec.ofNat 32 128) 23#32 = 1073741824#32 := by decide
  unfold power at h
  rw [e] at h
  rw [h]; norm_num

/-! ## The search -/

theorem maxsi_toInt (a b : BitVec 32) : (IntOp.maxsi a b).toInt = max a.toInt b.toInt := by
  unfold IntOp.maxsi
  simp only [BitVec.slt]
  by_cases h : b.toInt < a.toInt
  · rw [if_pos (by simpa using h), max_eq_left h.le]
  · rw [if_neg (by simpa using h), max_eq_right (not_lt.mp h)]

/-- The search's result as an integer: a maximum of integers. -/
theorem field_toInt (v : EReal) : (field v).toInt = Finset.fold max (-2147483648 : ℤ)
    (fun j : Fin 256 => if power (BitVec.ofNat 32 j.val) ≤ v then (j.val : ℤ) else 0) Finset.univ := by
  unfold field
  rw [← Finset.fold_hom (op := IntOp.maxsi) (op' := max) (m := BitVec.toInt) maxsi_toInt]
  congr 1
  funext j
  split
  · exact int_word j
  · rfl

/-- The search finds field `j` when the number of field `j` is at most `v` and those of the fields above are not. -/
theorem field_eq (v : EReal) (j : Nat) (hj : j < 256) (h : j = 0 ∨ power (BitVec.ofNat 32 j) ≤ v)
    (hn : ∀ i, j < i → i < 256 → ¬ power (BitVec.ofNat 32 i) ≤ v) : field v = BitVec.ofNat 32 j := by
  apply BitVec.eq_of_toInt_eq
  rw [field_toInt, int_word ⟨j, hj⟩]
  apply le_antisymm
  · rw [Finset.fold_max_le]
    refine ⟨by simp only; omega, fun i _ => ?_⟩
    split
    · rename_i hi
      by_contra hlt
      exact hn i.val (by simp only at hlt; omega) i.isLt hi
    · simp
  · rw [Finset.le_fold_max]
    refine Or.inr ⟨⟨j, hj⟩, Finset.mem_univ _, ?_⟩
    rcases h with rfl | h
    · split <;> simp
    · rw [if_pos h]

/-! ## The base-2 logarithm -/

/-- The base-2 logarithm. -/
def log2 (x : ℝ) : ℝ := Real.log x * (Real.log 2)⁻¹

theorem le_log2 (x : ℝ) (hx : 0 < x) (z : ℤ) : (z : ℝ) ≤ log2 x ↔ (2 : ℝ) ^ z ≤ x := by
  have hl2 : 0 < Real.log 2 := Real.log_pos (by norm_num)
  unfold log2
  rw [← div_eq_mul_inv, le_div_iff₀ hl2, ← Real.log_zpow, Real.log_le_log_iff (by positivity) hx]

/-! ## The two agree -/

/-- Below the smallest normal number both exponents are zero. -/
theorem small_case (v : EReal) (h : v < (((2 : ℝ) ^ (-126 : ℤ) : ℝ) : EReal)) :
    kscale v = 1 ∧ kinv v = 1 ∧ rexp v = 0 := by
  have hf : field v = BitVec.ofNat 32 0 := by
    refine field_eq v 0 (by omega) (Or.inl rfl) fun i h0 h1 hle => ?_
    by_cases hi : i = 255
    · subst hi
      rw [power_top] at hle
      exact absurd (lt_of_le_of_lt hle h) (not_lt.mpr le_top)
    · rw [power_inside i (by omega) (by omega)] at hle
      have := lt_of_le_of_lt hle h
      rw [EReal.coe_lt_coe_iff] at this
      have h2 := (zpow_lt_zpow_iff_right₀ (by norm_num : (1 : ℝ) < 2)).mp this
      omega
  have hk : kexp v = 0#32 := by unfold kexp; rw [hf]; decide
  have hp : power (BitVec.ofNat 32 127) = 1 := by rw [power_inside 127 (by omega) (by omega)]; norm_num
  refine ⟨?_, ?_, ?_⟩
  · unfold kscale; rw [hk, show IntOp.addi 0#32 127#32 = BitVec.ofNat 32 127 by decide, hp]
  · unfold kinv; rw [hk, show IntOp.addi (IntOp.subi 0#32 0#32) 127#32 = BitVec.ofNat 32 127 by decide, hp]
  · unfold rexp flush
    rw [small_eq, if_pos h, if_pos rfl]

/-- From the smallest normal number up to 2^126, the kernel's two powers and the reference's exponent, by the floor of the base-2
    logarithm. -/
theorem normal_case (x : ℝ) (h1 : (2 : ℝ) ^ (-126 : ℤ) ≤ x) (h2 : x < (2 : ℝ) ^ (126 : ℤ)) :
    kscale (x : EReal) = (((2 : ℝ) ^ (⌊log2 x⌋ + 1) : ℝ) : EReal)
    ∧ kinv (x : EReal) = (((2 : ℝ) ^ (-(⌊log2 x⌋ + 1)) : ℝ) : EReal)
    ∧ rexp (x : EReal) = (((⌊log2 x⌋ + 1 : ℤ) : ℝ) : EReal) := by
  have hx : 0 < x := lt_of_lt_of_le (by positivity) h1
  have hlo : (-126 : ℤ) ≤ ⌊log2 x⌋ := by
    rw [Int.le_floor, le_log2 x hx]; exact h1
  have hhi : ⌊log2 x⌋ < (126 : ℤ) := by
    rw [Int.floor_lt, ← not_le, le_log2 x hx, not_le]; exact h2
  have hfl : (2 : ℝ) ^ ⌊log2 x⌋ ≤ x := by
    rw [← le_log2 x hx]; exact Int.floor_le _
  have hfu : x < (2 : ℝ) ^ (⌊log2 x⌋ + 1) := by
    rw [← not_le, ← le_log2 x hx, not_le]; push_cast; exact Int.lt_floor_add_one _
  generalize hE : ⌊log2 x⌋ = E at hlo hhi hfl hfu
  obtain ⟨j, hj⟩ : ∃ j : ℕ, (j : ℤ) = E + 127 := ⟨(E + 127).toNat, by omega⟩
  have hf : field (x : EReal) = BitVec.ofNat 32 j := by
    refine field_eq _ j (by omega) (Or.inr ?_) fun i h0 hi hle => ?_
    · rw [power_inside j (by omega) (by omega), EReal.coe_le_coe_iff, show (j : ℤ) - 127 = E by omega]; exact hfl
    · by_cases h255 : i = 255
      · subst h255
        rw [power_top] at hle
        exact absurd (lt_of_le_of_lt hle (EReal.coe_lt_top x)) (lt_irrefl _)
      · rw [power_inside i (by omega) (by omega), EReal.coe_le_coe_iff] at hle
        have h3 := (zpow_lt_zpow_iff_right₀ (by norm_num : (1 : ℝ) < 2)).mp (lt_of_le_of_lt hle hfu)
        omega
  have hk : kexp (x : EReal) = IntOp.subi (BitVec.ofNat 32 j) 126#32 := by
    unfold kexp
    rw [hf, inside_word ⟨j, by omega⟩ (by simp only; omega) (by simp only; omega)]
    rfl
  refine ⟨?_, ?_, ?_⟩
  · unfold kscale
    rw [hk, up_word ⟨j, by omega⟩ (by simp only; omega) (by simp only; omega), power_inside _ (by omega) (by simp only; omega)]
    congr 2; simp only; push_cast; omega
  · unfold kinv
    rw [hk, down_word ⟨j, by omega⟩ (by simp only; omega) (by simp only; omega), power_inside _ (by simp only; omega) (by omega)]
    congr 2; simp only; omega
  · have hfx : flush (x : EReal) = (x : EReal) := by
      unfold flush
      rw [small_eq, if_neg (by rw [EReal.coe_lt_coe_iff]; exact not_lt.mpr h1)]
    unfold rexp
    rw [hfx, if_neg (by rw [← EReal.coe_zero, EReal.coe_eq_coe_iff]; exact hx.ne'), two_eq, Ideal.log_coe, Ideal.log_coe,
      if_neg (not_le.mpr hx), if_neg (by norm_num)]
    have hl2 : Real.log 2 ≠ 0 := (Real.log_pos (by norm_num)).ne'
    unfold Ideal.div
    rw [if_neg (by rw [← EReal.coe_zero, EReal.coe_eq_coe_iff]; exact hl2), ← EReal.coe_inv, ← EReal.coe_mul]
    show ((⌊Real.log x * (Real.log 2)⁻¹⌋ : ℝ) : EReal) + 1 = _
    rw [show Real.log x * (Real.log 2)⁻¹ = log2 x from rfl, hE]
    push_cast
    rfl

/-- The kernel's scale is two to the reference's exponent, below 2^126. -/
theorem scale_eq (v : EReal) (h : v < (((2 : ℝ) ^ (126 : ℤ) : ℝ) : EReal)) : kscale v = Ideal.exp2 (rexp v) := by
  by_cases hs : v < (((2 : ℝ) ^ (-126 : ℤ) : ℝ) : EReal)
  · obtain ⟨h1, -, h3⟩ := small_case v hs
    rw [h1, h3, ← EReal.coe_zero, Ideal.exp2_coe]
    simp
  · induction v with
    | bot => exact absurd (EReal.bot_lt_coe _) hs
    | top => exact absurd h (not_lt.mpr le_top)
    | coe x =>
      obtain ⟨h1, -, h3⟩ := normal_case x (by rwa [EReal.coe_lt_coe_iff, not_lt] at hs) (by rwa [EReal.coe_lt_coe_iff] at h)
      rw [h1, h3, Ideal.exp2_coe, EReal.coe_eq_coe_iff]
      exact (Real.rpow_intCast 2 _).symm

/-- The kernel's factor is two to minus the reference's exponent, below 2^126. -/
theorem inv_eq (v : EReal) (h : v < (((2 : ℝ) ^ (126 : ℤ) : ℝ) : EReal)) : kinv v = Ideal.exp2 (0 - rexp v) := by
  by_cases hs : v < (((2 : ℝ) ^ (-126 : ℤ) : ℝ) : EReal)
  · obtain ⟨-, h2, h3⟩ := small_case v hs
    rw [h2, h3, sub_zero, ← EReal.coe_zero, Ideal.exp2_coe]
    simp
  · induction v with
    | bot => exact absurd (EReal.bot_lt_coe _) hs
    | top => exact absurd h (not_lt.mpr le_top)
    | coe x =>
      obtain ⟨-, h2, h3⟩ := normal_case x (by rwa [EReal.coe_lt_coe_iff, not_lt] at hs) (by rwa [EReal.coe_lt_coe_iff] at h)
      rw [h2, h3, ← EReal.coe_zero, ← EReal.coe_sub, Ideal.exp2_coe, EReal.coe_eq_coe_iff, zero_sub, ← Int.cast_neg]
      exact (Real.rpow_intCast 2 _).symm

/-! ## The bound -/

/-- The largest finite half-width number times the quantiser's constant is below 2^126, so a magnitude of finite activations is. -/
theorem bound (a : EReal) (h : a ≤ Ideal.ofBits .bf16 32639#16) :
    a * Ideal.ofBits .f32 991054117#32 < (((2 : ℝ) ^ (126 : ℤ) : ℝ) : EReal) := by
  have hB : Ideal.ofBits .bf16 32639#16 = ((255 * (2 : ℝ) ^ (120 : ℤ) : ℝ) : EReal) := by
    simp [Ideal.ofBits, Ideal.ieee, -EReal.coe_mul]
  have hc : Ideal.ofBits .f32 991054117#32 = ((9586981 * (2 : ℝ) ^ (-32 : ℤ) : ℝ) : EReal) := by
    simp [Ideal.ofBits, Ideal.ieee, -EReal.coe_mul]
  rw [hB] at h
  rw [hc]
  refine lt_of_le_of_lt (mul_le_mul_of_nonneg_right h ?_) ?_
  · rw [← EReal.coe_zero, EReal.coe_le_coe_iff]; positivity
  · rw [← EReal.coe_mul, EReal.coe_lt_coe_iff]; norm_num

end Cert.Exponent

end
-- ==== Proof.ReadK.lean ====
/- The idealized kernel's payloads read at an index, over any block of transposed activations. -/
module

public import proofs.«01_k».proof.Proof.Run
public import proofs.«01_k».proof.Proof.Exponent
public import Idealize.ShloMosaic.Lib.Pointwise
public import Idealize.ShloMosaic.Lib.IdealHost

@[expose] public section

set_option maxRecDepth 16384

noncomputable section

namespace Cert.KernelIdeal.Val

open Cert.KernelIdeal.Gen
open Idealize.ShloMosaic Idealize.ShloMosaic.TcCoe Idealize.ShloMosaic.Tactic
open Cert.Exponent

/-- The value whose exponent is taken for a token: its activations' largest magnitude over 448. -/
def vmax (x : Vec Ideal S2880x256 .bf16) (r : Fin 256) : EReal :=
  Finset.fold max ⊥ (fun k : Fin 2880 => FloatOps.absf (F := Ideal) (φ := .bf16) (x (ix2 k r))) Finset.univ * Ideal.ofBits .f32 991054117#32

theorem bot16 : Ideal.ofBits .bf16 65408#16 = ⊥ := by simp [Ideal.ofBits, Ideal.ieee]

/-- The kernel's exponent of a token. -/
theorem exponent_at (x : Vec Ideal S2880x256 .bf16) (r : Fin 256) : k0_pay4 x (ix2 0 r) = kexp (vmax x r) := by
  suffices key : ∀ P : BitVec 32 → Prop, P (kexp (vmax x r)) → P (k0_pay4 x (ix2 0 r)) from key (· = kexp (vmax x r)) rfl
  intro P h
  unfold kexp field power vmax at h
  rw [← bot16] at h
  pointwise [k0_pay4, k0_pay3]
  exact h

/-- Its scale. -/
theorem scale_at (x : Vec Ideal S2880x256 .bf16) (r : Fin 256) : k0_pay5 x (ix2 0 r) = kscale (vmax x r) := by
  unfold kscale power
  rw [← exponent_at]
  pointwise [k0_pay5]

theorem scales_at (x : Vec Ideal S2880x256 .bf16) (r : Fin 256) : scales x (ix2 0 r) = kscale (vmax x r) := scale_at x r

theorem scalesT_at (x : Vec Ideal S2880x256 .bf16) (r : Fin 256) : scalesT x (ix2 r 0) = kscale (vmax x r) := by
  rw [← scale_at]
  pointwise [scalesT, k0_pay10]

/-- A code: the activation times the inverse of the scale, clipped to ±448. -/
theorem codes_at (x : Vec Ideal S2880x256 .bf16) (r : Fin 256) (k : Fin 2880) : codes x (ix2 r k)
    = min (Ideal.ofBits .f32 1138753536#32) (max (Ideal.ofBits .f32 3286237184#32) (x (ix2 k r) * kinv (vmax x r))) := by
  unfold kinv power
  rw [← exponent_at]
  pointwise [codes, k0_pay9, k0_pay7, k0_pay6, k0_pay3]

theorem codesT_at (x : Vec Ideal S2880x256 .bf16) (r : Fin 256) (k : Fin 2880) : codesT x (ix2 k r)
    = min (Ideal.ofBits .f32 1138753536#32) (max (Ideal.ofBits .f32 3286237184#32) (x (ix2 k r) * kinv (vmax x r))) := by
  unfold kinv power
  rw [← exponent_at]
  pointwise [codesT, k0_pay8, k0_pay7, k0_pay6, k0_pay3]

/-- The row of adapter `n`'s component `k` among the forty. -/
def row (n : Fin 5) (k : Fin 8) : Fin 40 := ⟨n.val * 8 + k.val, by omega⟩

theorem row_word : ∀ (n : Fin 5) (k : Fin 8), Scalar.select (IntOp.andi (IntOp.cmpi .ne (IntOp.subi (BitVec.setWidth 32 (IntOp.cmpi .sgt (BitVec.ofNat 32 (row n k).val) 0#32)) (BitVec.setWidth 32 (IntOp.cmpi .slt (BitVec.ofNat 32 (row n k).val) 0#32))) (Scalar.subi (Scalar.extui (Scalar.cmpi .sgt 8#32 0#32)) (Scalar.extui (Scalar.cmpi .slt 8#32 0#32)))) (IntOp.cmpi .ne (IntOp.remsi .vector (BitVec.ofNat 32 (row n k).val) 8#32) 0#32)) (IntOp.subi (IntOp.divsi .vector (BitVec.ofNat 32 (row n k).val) 8#32) 1#32) (IntOp.divsi .vector (BitVec.ofNat 32 (row n k).val) 8#32) = BitVec.ofNat 32 n.val := by decide +kernel

/-- A masked component of the adapters' first product: zero unless the row is of the token's adapter. -/
theorem adapt_at (x : Vec Ideal S2880x256 .bf16) (a : Vec Ideal S40x2880 .bf16) (i : Vec Ideal S1x256 .i32)
    (r : Fin 256) (n : Fin 5) (k : Fin 8) : adapt x a i (ix2 r (row n k))
    = Scalar.select (IntOp.cmpi .eq (BitVec.ofNat 32 n.val) (i (ix2 0 r))) (∑ d : Fin 2880, a (ix2 (row n k) d) * x (ix2 d r)) 0 := by
  rw [← row_word n k]
  generalize row n k = q
  pointwise [adapt, k0_pay1, k0_pay11, k0_pay12, k0_pay13, k0_pay14, k0_pay3]

end Cert.KernelIdeal.Val

end
-- ==== Proof.ReadR.lean ====
/- The reference's quantiser read at an index. -/
module

public import proofs.«01_k».proof.Proof.Gen.ReferenceIdeal.Skeleton
public import proofs.«01_k».proof.Proof.Gen.ReferenceIdeal.Launch
public import proofs.«01_k».proof.Proof.Exponent
public import Idealize.ShloMosaic.Lib.Pointwise
public import Idealize.ShloMosaic.Lib.IdealHost

@[expose] public section

set_option maxRecDepth 16384

noncomputable section

namespace Cert.ReferenceIdeal.Val

open Cert.ReferenceIdeal.Gen
open Idealize.ShloMosaic Idealize.ShloMosaic.TcCoe Idealize.ShloMosaic.Tactic
open Cert.Exponent

/-- The value whose exponent is taken for a token: its activations' largest magnitude over 448. -/
def vmax (x : Vec Ideal S1x256x2880 .bf16) (r : Fin 256) : EReal :=
  Finset.fold max ⊥ (fun k : Fin 2880 => FloatOps.absf (F := Ideal) (φ := .bf16) (x (ix3 0 r k))) Finset.univ * Ideal.ofBits .f32 991054117#32

theorem bot32 : Ideal.ofBits .f32 4286578688#32 = ⊥ := by simp [Ideal.ofBits, Ideal.ieee]

/-- Finite activations keep it below 2^126. -/
theorem vmax_lt (x : Vec Ideal S1x256x2880 .bf16) (r : Fin 256)
    (h : ∀ k, FloatOps.absf (F := Ideal) (φ := .bf16) (x (ix3 0 r k)) ≤ Ideal.ofBits .bf16 32639#16) :
    vmax x r < (((2 : ℝ) ^ (126 : ℤ) : ℝ) : EReal) :=
  bound _ ((Finset.fold_max_le _).2 ⟨bot_le, fun k _ => h k⟩)

/-- The reference's exponent of a token. -/
theorem exponent_at (x : Vec Ideal S1x256x2880 .bf16) (r : Fin 256) : k0_pay4 x (ix1 r) = rexp (vmax x r) := by
  suffices key : ∀ P : EReal → Prop, P (rexp (vmax x r)) → P (k0_pay4 x (ix1 r)) from key (· = rexp (vmax x r)) rfl
  intro P h
  unfold rexp flush vmax at h
  rw [← bot32] at h
  pointwise [k0_pay4, k0_pay3, k0_pay2]
  exact h

/-- Its scale. -/
theorem scale_at (x : Vec Ideal S1x256x2880 .bf16) (r : Fin 256) : k0_pay5 x (ix1 r) = Ideal.exp2 (rexp (vmax x r)) := by
  rw [← exponent_at]
  pointwise [k0_pay5]
  rfl

theorem scales_at (x : Vec Ideal S1x256x2880 .bf16) (r : Fin 256) : k0_pay8 x (ix2 0 r) = Ideal.exp2 (rexp (vmax x r)) := by
  rw [← scale_at]
  pointwise [k0_pay8]

/-- A code: the activation times the inverse of the scale, clipped to ±448. -/
theorem codes_at (x : Vec Ideal S1x256x2880 .bf16) (r : Fin 256) (k : Fin 2880) : k0_pay6 x (ix2 r k)
    = min (Ideal.ofBits .f32 1138753536#32) (max (Ideal.ofBits .f32 3286237184#32) (x (ix3 0 r k) * Ideal.exp2 (0 - rexp (vmax x r)))) := by
  rw [← exponent_at]
  pointwise [k0_pay6, k0_pay3, k0_pay2]
  rfl

theorem codes3_at (x : Vec Ideal S1x256x2880 .bf16) (r : Fin 256) (k : Fin 2880) : k0_pay7 x (ix3 0 r k) = k0_pay6 x (ix2 r k) := by
  pointwise [k0_pay7]

end Cert.ReferenceIdeal.Val

end
-- ==== Proof.Equal.lean ====
/- On finite activations the kernel's three results are the reference's, as functions of the arguments. -/
module

public import proofs.«01_k».proof.Defs
public import proofs.«01_k».proof.Proof.Results
public import proofs.«01_k».proof.Proof.Reference
public import proofs.«01_k».proof.Proof.ReadK
public import proofs.«01_k».proof.Proof.ReadR

@[expose] public section

set_option maxRecDepth 16384

noncomputable section

namespace Cert.Equal

open Idealize.ShloMosaic Idealize.ShloMosaic.TcCoe Idealize.ShloMosaic.Tactic
open Cert.Exponent
open Cert.KernelIdeal.Gen (shapeCasts_S1x256x2880_S256x2880 transposes_S256x2880_S2880x256_1_0 transposes_S5x2880x8_S5x8x2880_0_2_1
  shapeCasts_S5x8x2880_S40x2880 shapeCasts_S5x8x11520_S40x11520 shapeCasts_S11520_S1x11520 shapeCasts_S256x11520_S1x256x11520
  shapeCasts_S256x2880_S1x256x2880 transposes_S2880x256_S256x2880_1_0)

section
open Cert.KernelIdeal

/-- The activations as the kernel's region reads them: a token per column. -/
def xT (x : Vec Ideal S1x256x2880 .bf16) : Vec Ideal S2880x256 .bf16 :=
  transpose S2880x256 [1, 0] (shapeCast S256x2880 x shapeCasts_S1x256x2880_S256x2880) transposes_S256x2880_S2880x256_1_0

/-- The adapters' first factors as it reads them: a component of an adapter per row. -/
def aT (a : Vec Ideal S5x2880x8 .bf16) : Vec Ideal S40x2880 .bf16 :=
  shapeCast S40x2880 (transpose S5x8x2880 [0, 2, 1] a transposes_S5x2880x8_S5x8x2880_0_2_1) shapeCasts_S5x8x2880_S40x2880

/-- The adapters' second factors, likewise. -/
def bT (b : Vec Ideal S5x8x11520 .bf16) : Vec Ideal S40x11520 .bf16 := shapeCast S40x11520 b shapeCasts_S5x8x11520_S40x11520

/-- The weights' scales as a row. -/
def wsT (ws : Vec Ideal S11520 .f32) : Vec Ideal S1x11520 .f32 := shapeCast S1x11520 ws shapeCasts_S11520_S1x11520

theorem xT_at (x : Vec Ideal S1x256x2880 .bf16) (k : Fin 2880) (r : Fin 256) : xT x (ix2 k r) = x (ix3 0 r k) := by
  pointwise [xT]

theorem wsT_at (ws : Vec Ideal S11520 .f32) (j : Fin 11520) : wsT ws (ix2 0 j) = ws (ix1 j) := by
  pointwise [wsT]

theorem row_div (n : Fin 5) (k : Fin 8) (h : (Val.row n k).val / 8 < 5) : (⟨(Val.row n k).val / 8, h⟩ : Fin 5) = n :=
  Fin.ext (by simp only [Val.row]; omega)

theorem row_mod (n : Fin 5) (k : Fin 8) (h : (Val.row n k).val % 8 < 8) : (⟨(Val.row n k).val % 8, h⟩ : Fin 8) = k :=
  Fin.ext (by simp only [Val.row]; omega)

theorem aT_at (a : Vec Ideal S5x2880x8 .bf16) (n : Fin 5) (k : Fin 8) (d : Fin 2880) : aT a (ix2 (Val.row n k) d) = a (ix3 n d k) := by
  pointwise [aT]
  simp only [row_div, row_mod]

theorem bT_at (b : Vec Ideal S5x8x11520 .bf16) (n : Fin 5) (k : Fin 8) (j : Fin 11520) : bT b (ix2 (Val.row n k) j) = b (ix3 n k j) := by
  pointwise [bT]
  simp only [row_div, row_mod]

end

/-- The two programs' quantisers take the exponent of the same value. -/
theorem vmax_eq (x : Vec Ideal Cert.ReferenceIdeal.S1x256x2880 .bf16) (r : Fin 256) :
    Cert.KernelIdeal.Val.vmax (xT x) r = Cert.ReferenceIdeal.Val.vmax x r := by
  unfold Cert.KernelIdeal.Val.vmax Cert.ReferenceIdeal.Val.vmax
  simp only [xT_at]

/-- What the precondition says of the activations: no magnitude exceeds the largest finite one of their format. -/
def Finite (x : Vec Ideal Cert.ReferenceIdeal.S1x256x2880 .bf16) : Prop :=
  ∀ r k, FloatOps.absf (F := Ideal) (φ := .bf16) (x (ix3 0 r k)) ≤ Ideal.ofBits .bf16 32639#16

variable (x : Vec Ideal Cert.ReferenceIdeal.S1x256x2880 .bf16) (hx : Finite x)

include hx in
theorem scale_eq' (r : Fin 256) :
    kscale (Cert.KernelIdeal.Val.vmax (xT x) r) = Ideal.exp2 (rexp (Cert.ReferenceIdeal.Val.vmax x r)) := by
  rw [vmax_eq]; exact scale_eq _ (Cert.ReferenceIdeal.Val.vmax_lt x r (hx r))

include hx in
theorem inv_eq' (r : Fin 256) :
    kinv (Cert.KernelIdeal.Val.vmax (xT x) r) = Ideal.exp2 (0 - rexp (Cert.ReferenceIdeal.Val.vmax x r)) := by
  rw [vmax_eq]; exact inv_eq _ (Cert.ReferenceIdeal.Val.vmax_lt x r (hx r))

include hx in
/-- The codes the kernel multiplies are the reference's. -/
theorem codes_eq (r : Fin 256) (k : Fin 2880) :
    Cert.KernelIdeal.Val.codes (xT x) (ix2 r k) = Cert.ReferenceIdeal.Gen.k0_pay6 x (ix2 r k) := by
  rw [Cert.KernelIdeal.Val.codes_at, Cert.ReferenceIdeal.Val.codes_at, inv_eq' x hx, xT_at]

include hx in
/-- So are the codes it returns. -/
theorem codesT_eq (r : Fin 256) (k : Fin 2880) :
    Cert.KernelIdeal.Val.codesT (xT x) (ix2 k r) = Cert.ReferenceIdeal.Gen.k0_pay6 x (ix2 r k) := by
  rw [Cert.KernelIdeal.Val.codesT_at, Cert.ReferenceIdeal.Val.codes_at, inv_eq' x hx, xT_at]

theorem eq_word (a b : BitVec 32) : IntOp.cmpi .eq a b = IntOp.cmpi .eq b a := by
  change BitVec.ofBool (a == b) = BitVec.ofBool (b == a)
  rw [BEq.comm]

/-- The kernel's forty masked components times their factors are the five adapters' products. -/
theorem adapter_eq (a : Vec Ideal Cert.ReferenceIdeal.S5x2880x8 .bf16) (b : Vec Ideal Cert.ReferenceIdeal.S5x8x11520 .bf16)
    (i : Vec Ideal Cert.ReferenceIdeal.S1x256 .i32) (r : Fin 256) (j : Fin 11520) :
    (∑ q : Fin 40, Cert.KernelIdeal.Val.adapt (xT x) (aT a) i (ix2 r q) * bT b (ix2 q j) : EReal)
      = 0 + Cert.ReferenceIdeal.Val.lora x a b i 0 r j + Cert.ReferenceIdeal.Val.lora x a b i 1 r j
        + Cert.ReferenceIdeal.Val.lora x a b i 2 r j + Cert.ReferenceIdeal.Val.lora x a b i 3 r j
        + Cert.ReferenceIdeal.Val.lora x a b i 4 r j := by
  rw [zero_add, ← Fin.sum_univ_five (f := fun n => Cert.ReferenceIdeal.Val.lora x a b i n r j), Idealize.ShloMosaic.Fin.sum_univ_tiles 5 8 rfl]
  refine Finset.sum_congr rfl fun n _ => Finset.sum_congr rfl fun k _ => ?_
  change (Cert.KernelIdeal.Val.adapt (xT x) (aT a) i (ix2 r (Cert.KernelIdeal.Val.row n k)) * bT b (ix2 (Cert.KernelIdeal.Val.row n k) j) : EReal) = _
  rw [Cert.KernelIdeal.Val.adapt_at, bT_at, eq_word]
  simp only [aT_at, xT_at, mul_comm]

include hx in
/-- The result at a token and a column. -/
theorem y_at (w : Vec Ideal Cert.ReferenceIdeal.S2880x11520 .fp8e4m3) (ws : Vec Ideal Cert.ReferenceIdeal.S11520 .f32)
    (a : Vec Ideal Cert.ReferenceIdeal.S5x2880x8 .bf16) (b : Vec Ideal Cert.ReferenceIdeal.S5x8x11520 .bf16)
    (i : Vec Ideal Cert.ReferenceIdeal.S1x256 .i32) (r : Fin 256) (j : Fin 11520) :
    Cert.KernelIdeal.Val.yval (xT x) (aT a) i w (wsT ws) (bT b) (ix2 r j) = Cert.ReferenceIdeal.Val.yval x w ws a b i (ix3 0 r j) := by
  change (∑ k : Fin 2880, Cert.KernelIdeal.Val.codes (xT x) (ix2 r k) * w (ix2 k j)) * Cert.KernelIdeal.Val.scalesT (xT x) (ix2 r 0) * wsT ws (ix2 0 j)
      + (∑ q : Fin 40, Cert.KernelIdeal.Val.adapt (xT x) (aT a) i (ix2 r q) * bT b (ix2 q j)) * Ideal.ofBits .f32 1073741824#32
    = (∑ k : Fin 2880, Cert.ReferenceIdeal.Gen.k0_pay6 x (ix2 r k) * w (ix2 k j)) * Cert.ReferenceIdeal.Gen.k0_pay5 x (ix1 r) * ws (ix1 j)
      + (0 + Cert.ReferenceIdeal.Val.lora x a b i 0 r j + Cert.ReferenceIdeal.Val.lora x a b i 1 r j
        + Cert.ReferenceIdeal.Val.lora x a b i 2 r j + Cert.ReferenceIdeal.Val.lora x a b i 3 r j
        + Cert.ReferenceIdeal.Val.lora x a b i 4 r j) * Ideal.ofBits .f32 1073741824#32
  rw [adapter_eq, wsT_at, Cert.KernelIdeal.Val.scalesT_at, Cert.ReferenceIdeal.Val.scale_at, scale_eq' x hx]
  simp only [codes_eq x hx]

include hx in
/-- The first result. -/
theorem y_eq (w : Vec Ideal Cert.ReferenceIdeal.S2880x11520 .fp8e4m3) (ws : Vec Ideal Cert.ReferenceIdeal.S11520 .f32)
    (a : Vec Ideal Cert.ReferenceIdeal.S5x2880x8 .bf16) (b : Vec Ideal Cert.ReferenceIdeal.S5x8x11520 .bf16)
    (i : Vec Ideal Cert.ReferenceIdeal.S1x256 .i32) :
    shapeCast Cert.KernelIdeal.S1x256x11520 (Cert.KernelIdeal.Val.yval (xT x) (aT a) i w (wsT ws) (bT b)) shapeCasts_S256x11520_S1x256x11520
      = Cert.ReferenceIdeal.Val.yval x w ws a b i := by
  funext y
  obtain ⟨q, r, j, rfl⟩ : ∃ (q : Fin 1) (r : Fin 256) (j : Fin 11520), y = ix3 q r j := ⟨y 0, y 1, y 2, by funext d; fin_cases d <;> rfl⟩
  rw [Subsingleton.elim q 0, ← y_at x hx]
  generalize Cert.KernelIdeal.Val.yval (xT x) (aT a) i w (wsT ws) (bT b) = v
  pointwise

include hx in
/-- The second result. -/
theorem c_eq : shapeCast Cert.KernelIdeal.S1x256x2880 (transpose Cert.KernelIdeal.S256x2880 [1, 0] (Cert.KernelIdeal.Val.codesT (xT x))
    transposes_S2880x256_S256x2880_1_0) shapeCasts_S256x2880_S1x256x2880 = Cert.ReferenceIdeal.Gen.k0_pay7 x := by
  funext y
  obtain ⟨q, r, k, rfl⟩ : ∃ (q : Fin 1) (r : Fin 256) (k : Fin 2880), y = ix3 q r k := ⟨y 0, y 1, y 2, by funext d; fin_cases d <;> rfl⟩
  rw [Subsingleton.elim q 0, Cert.ReferenceIdeal.Val.codes3_at, ← codesT_eq x hx]
  generalize Cert.KernelIdeal.Val.codesT (xT x) = v
  pointwise

include hx in
/-- The third result. -/
theorem s_eq : Cert.KernelIdeal.Val.scales (xT x) = Cert.ReferenceIdeal.Gen.k0_pay8 x := by
  funext y
  obtain ⟨q, r, rfl⟩ : ∃ (q : Fin 1) (r : Fin 256), y = ix2 q r := ⟨y 0, y 1, by funext d; fin_cases d <;> rfl⟩
  rw [Subsingleton.elim q 0, Cert.ReferenceIdeal.Val.scales_at, Cert.KernelIdeal.Val.scales_at, scale_eq' x hx]

/-- The precondition's function, all ones, says that the activations are finite. -/
theorem finite_of_pre [Cert.Pre_x_finite.Facts] (w : Vec Ideal Cert.ReferenceIdeal.S2880x11520 .fp8e4m3)
    (ws : Vec Ideal Cert.ReferenceIdeal.S11520 .f32) (a : Vec Ideal Cert.ReferenceIdeal.S5x2880x8 .bf16)
    (b : Vec Ideal Cert.ReferenceIdeal.S5x8x11520 .bf16) (i : Vec Ideal Cert.ReferenceIdeal.S1x256 .i32)
    (h : Cert.Pre_x_finite.fn (F := Ideal) x w ws a b i = fun _ => 1#1) : Finite x := by
  intro r k
  have h1 := congrFun h (ix3 0 r k)
  by_contra hn
  pointwise [Cert.Pre_x_finite.fn] at h1
  rw [decide_eq_false hn] at h1
  exact absurd h1 (by decide)

end Cert.Equal

end
-- ==== Proof.Same.lean ====
/- The kernel's frame, from the ideal kernel's. -/
module

public import proofs.«01_k».proof.Defs
public import proofs.«01_k».proof.Proof.Gen.Kernel
public import proofs.«01_k».proof.Proof.Data

@[expose] public section

set_option maxRecDepth 16384

noncomputable section

namespace Cert.Same

open Idealize.ShloMosaic Idealize.SL.Sem

set_option smartUnfolding false in
/-- The kernel's frame. No operation was rewritten in the ideal program, so the two programs are one text, equal by unfolding; and
    the frame of that text was proved for every reading of the floats, here taken at their bits. -/
theorem frame_kernel : Cert.quiescent_Kernel (hKernel := Cert.Kernel.Gen.facts) :=
  fun m ρ _ => Cert.KernelIdeal.Val.frame m ρ

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem Cert.Kernel

/-- The precondition's stated facts. -/
instance preFacts : Cert.Pre_x_finite.Facts := ⟨by decide⟩

/-- The two programs end with equal results. -/
theorem algebraic : Cert.algebraic_KernelIdeal_ReferenceIdeal_pre_x_finite (hKernelIdeal := Cert.KernelIdeal.Gen.facts)
    (hReferenceIdeal := Cert.ReferenceIdeal.Gen.facts) (hPre_x_finite := preFacts) := by
  intro m g m' g' hpre hargs
  have hfin := fun c => Cert.Equal.finite_of_pre _ _ _ _ _ _ (hpre c)
  refine ⟨fun c => Cert.ReferenceIdeal.Val.yval (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)),
    fun c => Cert.ReferenceIdeal.Gen.k0_pay7 (m (c.tc.loc Cert.KernelIdeal.main_arg0)),
    fun c => Cert.ReferenceIdeal.Gen.k0_pay8 (m (c.tc.loc Cert.KernelIdeal.main_arg0)), ?_, ?_⟩
  · refine (θ_run _ _ _).mono (fun r h c => ?_) (θ_run_and (Cert.KernelIdeal.Val.results m g) (Cert.KernelIdeal.Val.frame m g))
    obtain ⟨hy, hc, hs⟩ := h.1 c
    refine ⟨hy.trans ?_, hc.trans ?_, hs.trans ?_, h.2.1 c⟩
    · rw [Cert.KernelIdeal.Val.blkX_eq, Cert.KernelIdeal.Val.blkA_eq, Cert.KernelIdeal.Val.blkI_eq, Cert.KernelIdeal.Val.V_v1,
        Cert.KernelIdeal.Val.V_v3, Cert.KernelIdeal.Val.V_v4, Cert.KernelIdeal.Val.V_v5]
      exact Cert.Equal.y_eq _ (hfin c) _ _ _ _ _
    · rw [Cert.KernelIdeal.Val.blkX_eq, Cert.KernelIdeal.Val.V_v1]
      exact Cert.Equal.c_eq _ (hfin c)
    · rw [Cert.KernelIdeal.Val.blkX_eq, Cert.KernelIdeal.Val.V_v1]
      exact Cert.Equal.s_eq _ (hfin c)
  · refine (θ_run _ _ _).mono (fun r h c => ?_) (θ_run_and (Cert.ReferenceIdeal.Val.results m' g') (Cert.ReferenceIdeal.Gen.frame m' g'))
    obtain ⟨h0, h1, h2, h3, h4, h5⟩ := hargs c
    obtain ⟨hy, hc, hs⟩ := h.1 c
    rw [h0, h1, h2, h3, h4, h5] at hy
    rw [h0] at hc hs
    exact ⟨hy, hc, hs, h.2.1 c⟩

theorem claim : Cert.Claim :=
  ⟨Cert.Kernel.Gen.facts, Cert.KernelIdeal.Gen.facts, Cert.ReferenceIdeal.Gen.facts, preFacts,
    Cert.Same.frame_kernel, fun m ρ _ => Cert.KernelIdeal.Val.frame m ρ, fun m ρ _ => Cert.KernelIdeal.Val.frame m ρ,
    fun m ρ _ => Cert.ReferenceIdeal.Gen.frame m ρ, fun m ρ _ => Cert.ReferenceIdeal.Gen.frame m ρ, trivial, algebraic⟩

end Cert.Proof

end
